-- ==== Defs.lean ====
def Pre_Kernel [hPre_leng_in_range : Cert.Pre_leng_in_range.Facts] (m : (ℓ : Loc Cert.Kernel.nD Cert.Kernel.τ Cert.Kernel.sig) → Buf (Elt Bits) ℓ) : Prop :=
  ∀ c : Dev Cert.Kernel.nD,
    (Cert.Pre_leng_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_leng_in_range : Cert.Pre_leng_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_leng_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_leng_in_range [hPre_leng_in_range : Cert.Pre_leng_in_range.Facts] (m : (ℓ : Loc Cert.Reference.nD Cert.Reference.τ Cert.Reference.sig) → Buf (Elt Bits) ℓ) : Prop :=
  ∀ c : Dev Cert.Reference.nD,
    (Cert.Pre_leng_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_leng_in_range [hPre_leng_in_range : Cert.Pre_leng_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_leng_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_leng_in_range : Cert.Pre_leng_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_leng_in_range : Cert.Pre_leng_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_leng_in_range [hReference : Cert.Reference.Facts] [hPre_leng_in_range : Cert.Pre_leng_in_range.Facts] : Prop :=
  ∀ (m : (ℓ : Loc Cert.Reference.nD Cert.Reference.τ Cert.Reference.sig) → Buf (Elt Bits) ℓ) (g : Dev Cert.Reference.nD → PrngReg), Pre_Reference_leng_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_leng_in_range [hReferenceIdeal : Cert.ReferenceIdeal.Facts] [hPre_leng_in_range : Cert.Pre_leng_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_leng_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_leng_in_range : Cert.Pre_leng_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_leng_in_range : Cert.Pre_leng_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v16) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_leng_in_range : Cert.Pre_leng_in_range.Facts),
    quiescent_Kernel (hKernel := hKernel) (hPre_leng_in_range := hPre_leng_in_range)
    ∧ quiescent_KernelIdeal (hKernelIdeal := hKernelIdeal) (hPre_leng_in_range := hPre_leng_in_range)
    ∧ quiescent_Reference (hReference := hReference)
    ∧ quiescent_Reference_pre_leng_in_range (hReference := hReference) (hPre_leng_in_range := hPre_leng_in_range)
    ∧ quiescent_ReferenceIdeal (hReferenceIdeal := hReferenceIdeal)
    ∧ quiescent_ReferenceIdeal_pre_leng_in_range (hReferenceIdeal := hReferenceIdeal) (hPre_leng_in_range := hPre_leng_in_range)
    ∧ preserves_Kernel_KernelIdeal
    ∧ algebraic_KernelIdeal_ReferenceIdeal (hKernelIdeal := hKernelIdeal) (hReferenceIdeal := hReferenceIdeal) (hPre_leng_in_range := hPre_leng_in_range)
    ∧ bitexact_Kernel_Reference (hKernel := hKernel) (hReference := hReference) (hPre_leng_in_range := hPre_leng_in_range)
-- ==== Pre_leng_in_range.lean ====
abbrev S4x8192x1024 : Shape := ⟨3, ![4, 8192, 1024]⟩
abbrev S4 : Shape := ⟨1, ![4]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S4x8192x1024 .f32) (main_arg1 : IVec S4 32) : IVec S_ 1 :=
  let main_c : IVec S_ 32 := constantI S_ 32 0#32
  let main_v0 : IVec S4 32 := broadcastInDim S4 ![] bcast_S_S4 main_c
  let main_v1 : IVec S4 1 := cmpi .sge main_arg1 main_v0
  let main_c_0 : IVec S_ 32 := constantI S_ 32 8192#32
  let main_v2 : IVec S4 32 := broadcastInDim S4 ![] bcast_S_S4 main_c_0
  let main_v3 : IVec S4 1 := cmpi .slt main_arg1 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  main_v5
-- ==== Kernel.lean ====
abbrev S4x8192x1024 : Shape := ⟨3, ![4, 8192, 1024]⟩
abbrev S4 : Shape := ⟨1, ![4]⟩
abbrev S32768x1024 : Shape := ⟨2, ![32768, 1024]⟩
abbrev S4x1024 : Shape := ⟨2, ![4, 1024]⟩
abbrev S_ : Shape := ⟨0, ![]⟩
abbrev S1 : Shape := ⟨1, ![1]⟩
abbrev S1x1024 : Shape := ⟨2, ![1, 1024]⟩
abbrev S1024 : Shape := ⟨1, ![1024]⟩

abbrev nBuf : Table → Nat
  | .hbm => 4
  | .local .scScalar .smem => 1
  | _ => 0

abbrev bufTy : (tb : Table) → Fin (nBuf tb) → BufTy
  | .hbm, ⟨0, _⟩ => ⟨S4x8192x1024, .f32⟩
  | .hbm, ⟨1, _⟩ => ⟨S4, .i32⟩
  | .hbm, ⟨2, _⟩ => ⟨S32768x1024, .f32⟩
  | .hbm, ⟨3, _⟩ => ⟨S4x1024, .f32⟩
  | .local .scScalar .smem, ⟨0, _⟩ => ⟨S4, .i32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_1 : BitVec 32 := 0#32
  let c1_i32 : BitVec 32 := 1#32
  let v2 : BitVec 1 := Scalar.cmpi .slt v1 c1_i32
  let c8191_i32 : BitVec 32 := 8191#32
  let c1_i32_0 : BitVec 32 := 1#32
  let v3 : BitVec 32 := Scalar.subi v1 c1_i32_0
  let v4 : BitVec 32 := Scalar.select v2 c8191_i32 v3
  let v5 : BitVec 32 := Scalar.addi c0_i32_1 v4
  let c0_i32_4 : BitVec 32 := 0#32
  ![v5.toNat, 0]

def k0_off2 (v11 : BitVec 32) : Fin 2 → Nat :=
  let c8192_i32 : BitVec 32 := 8192#32
  let c1_i32_6 : BitVec 32 := 1#32
  let v12 : BitVec 1 := Scalar.cmpi .slt v11 c1_i32_6
  let c8191_i32_8 : BitVec 32 := 8191#32
  let c1_i32_7 : BitVec 32 := 1#32
  let v13 : BitVec 32 := Scalar.subi v11 c1_i32_7
  let v14 : BitVec 32 := Scalar.select v12 c8191_i32_8 v13
  let v15 : BitVec 32 := Scalar.addi c8192_i32 v14
  let c0_i32_11 : BitVec 32 := 0#32
  ![v15.toNat, 0]

def k0_off3 (v21 : BitVec 32) : Fin 2 → Nat :=
  let c16384_i32 : BitVec 32 := 16384#32
  let c1_i32_12 : BitVec 32 := 1#32
  let v22 : BitVec 1 := Scalar.cmpi .slt v21 c1_i32_12
  let c8191_i32_14 : BitVec 32 := 8191#32
  let c1_i32_13 : BitVec 32 := 1#32
  let v23 : BitVec 32 := Scalar.subi v21 c1_i32_13
  let v24 : BitVec 32 := Scalar.select v22 c8191_i32_14 v23
  let v25 : BitVec 32 := Scalar.addi c16384_i32 v24
  let c0_i32_17 : BitVec 32 := 0#32
  ![v25.toNat, 0]

def k0_off4 (v31 : BitVec 32) : Fin 2 → Nat :=
  let c24576_i32 : BitVec 32 := 24576#32
  let c1_i32_18 : BitVec 32 := 1#32
  let v32 : BitVec 1 := Scalar.cmpi .slt v31 c1_i32_18
  let c8191_i32_20 : BitVec 32 := 8191#32
  let c1_i32_19 : BitVec 32 := 1#32
  let v33 : BitVec 32 := Scalar.subi v31 c1_i32_19
  let v34 : BitVec 32 := Scalar.select v32 c8191_i32_20 v33
  let v35 : BitVec 32 := Scalar.addi c24576_i32 v34
  let c0_i32_23 : BitVec 32 := 0#32
  ![v35.toNat, 0]

def k0_chk4 (v31 : BitVec 32) : Prop :=
  (∀ a, (k0_off4 v31) a + S1x1024.size a ≤ S32768x1024.size a)
theorem k0_off4_inb : ∀ (v31 : BitVec 32) (k0_hw4 : k0_chk4 v31), ∀ a, (k0_off4 v31) a + S1x1024.size a ≤ S32768x1024.size a := fun v31 k0_hw4 => k0_hw4

def k0_off5 (v1 : BitVec 32) : Fin 2 → Nat :=
  let c0_i32_1 : BitVec 32 := 0#32
  let c1_i32 : BitVec 32 := 1#32
  let v2 : BitVec 1 := Scalar.cmpi .slt v1 c1_i32
  let c8191_i32 : BitVec 32 := 8191#32
  let c1_i32_0 : BitVec 32 := 1#32
  let v3 : BitVec 32 := Scalar.subi v1 c1_i32_0
  let v4 : BitVec 32 := Scalar.select v2 c8191_i32 v3
  let v5 : BitVec 32 := Scalar.addi c0_i32_1 v4
  let c0_i32_26 : BitVec 32 := 0#32
  ![v5.toNat, 0]

def k0_chk1 (v1 : BitVec 32) : Prop :=
  (∀ a, (k0_off1 v1) a + S1x1024.size a ≤ S32768x1024.size a) ∧
  (∀ a, (k0_off5 v1) a + S1x1024.size a ≤ S32768x1024.size a)
theorem k0_off1_inb : ∀ (v1 : BitVec 32) (k0_hw1 : k0_chk1 v1), ∀ a, (k0_off1 v1) a + S1x1024.size a ≤ S32768x1024.size a := fun v1 k0_hw1 => k0_hw1.1
theorem k0_off5_inb : ∀ (v1 : BitVec 32) (k0_hw1 : k0_chk1 v1), ∀ a, (k0_off5 v1) a + S1x1024.size a ≤ S32768x1024.size a := fun v1 k0_hw1 => k0_hw1.2

def k0_off6 (v11 : BitVec 32) : Fin 2 → Nat :=
  let c8192_i32 : BitVec 32 := 8192#32
  let c1_i32_6 : BitVec 32 := 1#32
  let v12 : BitVec 1 := Scalar.cmpi .slt v11 c1_i32_6
  let c8191_i32_8 : BitVec 32 := 8191#32
  let c1_i32_7 : BitVec 32 := 1#32
  let v13 : BitVec 32 := Scalar.subi v11 c1_i32_7
  let v14 : BitVec 32 := Scalar.select v12 c8191_i32_8 v13
  let v15 : BitVec 32 := Scalar.addi c8192_i32 v14
  let c0_i32_29 : BitVec 32 := 0#32
  ![v15.toNat, 0]

def k0_chk2 (v11 : BitVec 32) : Prop :=
  (∀ a, (k0_off2 v11) a + S1x1024.size a ≤ S32768x1024.size a) ∧
  (∀ a, (k0_off6 v11) a + S1x1024.size a ≤ S32768x1024.size a)
theorem k0_off2_inb : ∀ (v11 : BitVec 32) (k0_hw2 : k0_chk2 v11), ∀ a, (k0_off2 v11) a + S1x1024.size a ≤ S32768x1024.size a := fun v11 k0_hw2 => k0_hw2.1
theorem k0_off6_inb : ∀ (v11 : BitVec 32) (k0_hw2 : k0_chk2 v11), ∀ a, (k0_off6 v11) a + S1x1024.size a ≤ S32768x1024.size a := fun v11 k0_hw2 => k0_hw2.2

def k0_off7 (v21 : BitVec 32) : Fin 2 → Nat :=
  let c16384_i32 : BitVec 32 := 16384#32
  let c1_i32_12 : BitVec 32 := 1#32
  let v22 : BitVec 1 := Scalar.cmpi .slt v21 c1_i32_12
  let c8191_i32_14 : BitVec 32 := 8191#32
  let c1_i32_13 : BitVec 32 := 1#32
  let v23 : BitVec 32 := Scalar.subi v21 c1_i32_13
  let v24 : BitVec 32 := Scalar.select v22 c8191_i32_14 v23
  let v25 : BitVec 32 := Scalar.addi c16384_i32 v24
  let c0_i32_32 : BitVec 32 := 0#32
  ![v25.toNat, 0]

def k0_chk3 (v21 : BitVec 32) : Prop :=
  (∀ a, (k0_off3 v21) a + S1x1024.size a ≤ S32768x1024.size a) ∧
  (∀ a, (k0_off7 v21) a + S1x1024.size a ≤ S32768x1024.size a)
theorem k0_off3_inb : ∀ (v21 : BitVec 32) (k0_hw3 : k0_chk3 v21), ∀ a, (k0_off3 v21) a + S1x1024.size a ≤ S32768x1024.size a := fun v21 k0_hw3 => k0_hw3.1
theorem k0_off7_inb : ∀ (v21 : BitVec 32) (k0_hw3 : k0_chk3 v21), ∀ a, (k0_off7 v21) a + S1x1024.size a ≤ S32768x1024.size a := fun v21 k0_hw3 => k0_hw3.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x1024 : Shape := ⟨3, ![4, 8192, 1024]⟩
abbrev S4 : Shape := ⟨1, ![4]⟩
abbrev S_ : Shape := ⟨0, ![]⟩
abbrev S4x1 : Shape := ⟨2, ![4, 1]⟩
abbrev S4x2 : Shape := ⟨2, ![4, 2]⟩
abbrev S4x1024 : Shape := ⟨2, ![4, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S4, .i32⟩
  | .hbm, ⟨6, _⟩ => ⟨S_, .i32⟩
  | .hbm, ⟨7, _⟩ => ⟨S4, .i32⟩
  | .hbm, ⟨8, _⟩ => ⟨S4, .i1⟩
  | .hbm, ⟨9, _⟩ => ⟨S_, .i32⟩
  | .hbm, ⟨10, _⟩ => ⟨S4, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i1⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S4, .i32⟩
  | .hbm, ⟨20, _⟩ => ⟨S4x1, .i32⟩
  | .hbm, ⟨21, _⟩ => ⟨S4x1, .i32⟩
  | .hbm, ⟨22, _⟩ => ⟨S4x2, .i32⟩
  | .hbm, ⟨23, _⟩ => ⟨S4x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Words.lean ====
/-
  The words of `leng`. A batch entry's length `l` with `l < 8192` picks the row `pick l` of its batch: `l - 1`, or the last
  row when `l` is zero. Here: the offsets the kernel computes from such a word (`off1_eq` … `off4_eq`: the row `b * 8192 + pick l` of
  the flattened array, column 0), that they lie in the array (`chk1` … `chk4`), and that the precondition says of the four
  words exactly what is assumed of them (`pre_words`).
-/
module

public import proofs.«01_k».proof.Defs
public import proofs.«01_k».proof.Proof.Gen.KernelIdeal
public import proofs.«01_k».proof.Proof.Gen.Pre_leng_in_range
public import Idealize.ShloMosaic.Lib.Affine
public import Idealize.ShloMosaic.Lib.ReduceAll

@[expose] public section

noncomputable section

namespace Cert.Proof.Words

open Idealize.ShloMosaic Cert.KernelIdeal

/-- The row of its batch that a length picks. -/
def pick (l : BitVec 32) : ℕ := if l.toNat = 0 then 8191 else l.toNat - 1

theorem pick_lt {l : BitVec 32} (h : l.toNat < 8192) : pick l < 8192 := by unfold pick; split <;> omega

/-- A signed comparison of an in-range word with one. -/
theorem slt_one {l : BitVec 32} (h : l.toNat < 8192) : l.slt 1#32 = decide (l.toNat = 0) := by
  rw [BitVec.slt_eq_decide, BitVec.toInt_eq_toNat_of_lt (by omega)]
  simp

/-- The word the kernel adds to a batch's base row. -/
theorem select_toNat {l : BitVec 32} (h : l.toNat < 8192) :
    (Scalar.select (Scalar.cmpi .slt l 1#32) 8191#32 (Scalar.subi l 1#32) : BitVec 32).toNat = pick l := by
  unfold Scalar.select Scalar.cmpi IntOp.cmpi Scalar.subi IntOp.subi pick
  simp only [slt_one h]
  by_cases h0 : l.toNat = 0
  · simp [h0]
  · simp only [h0, decide_false, BitVec.ofBool_false, if_false]
    rw [if_neg (by decide), BitVec.toNat_sub]
    simp
    omega

/-- The row offset over a batch's base row, as the kernel computes it. -/
theorem row_toNat {l : BitVec 32} (h : l.toNat < 8192) (base : BitVec 32) (hb : base.toNat ≤ 24576) :
    (Scalar.addi base (Scalar.select (Scalar.cmpi .slt l 1#32) 8191#32 (Scalar.subi l 1#32)) : BitVec 32).toNat
      = base.toNat + pick l := by
  have hp := pick_lt h
  unfold Scalar.addi IntOp.addi
  rw [BitVec.toNat_add, select_toNat h, Nat.mod_eq_of_lt (by omega)]

theorem off1_eq {l : BitVec 32} (h : l.toNat < 8192) : k0_off1 l = ![0 * 8192 + pick l, 0] :=
  congrArg (![·, 0]) (row_toNat h 0#32 (by decide))
theorem off2_eq {l : BitVec 32} (h : l.toNat < 8192) : k0_off2 l = ![1 * 8192 + pick l, 0] :=
  congrArg (![·, 0]) (row_toNat h 8192#32 (by decide))
theorem off3_eq {l : BitVec 32} (h : l.toNat < 8192) : k0_off3 l = ![2 * 8192 + pick l, 0] :=
  congrArg (![·, 0]) (row_toNat h 16384#32 (by decide))
theorem off4_eq {l : BitVec 32} (h : l.toNat < 8192) : k0_off4 l = ![3 * 8192 + pick l, 0] :=
  congrArg (![·, 0]) (row_toNat h 24576#32 (by decide))

/-- A row of one of the four batches lies in the flattened array. -/
theorem row_inb (b : Fin 4) {l : BitVec 32} (h : l.toNat < 8192) (a : Fin 2) :
    (![b.val * 8192 + pick l, 0] : Fin 2 → ℕ) a + S1x1024.size a ≤ S32768x1024.size a := by
  have hp := pick_lt h
  match a with
  | 0 => show b.val * 8192 + pick l + 1 ≤ 32768; omega
  | 1 => show 0 + 1024 ≤ 1024; omega

theorem chk1 {l : BitVec 32} (h : l.toNat < 8192) : k0_chk1 l :=
  have e : ∀ a, k0_off1 l a + S1x1024.size a ≤ S32768x1024.size a := by rw [off1_eq h]; exact row_inb 0 h
  ⟨e, e⟩
theorem chk2 {l : BitVec 32} (h : l.toNat < 8192) : k0_chk2 l :=
  have e : ∀ a, k0_off2 l a + S1x1024.size a ≤ S32768x1024.size a := by rw [off2_eq h]; exact row_inb 1 h
  ⟨e, e⟩
theorem chk3 {l : BitVec 32} (h : l.toNat < 8192) : k0_chk3 l :=
  have e : ∀ a, k0_off3 l a + S1x1024.size a ≤ S32768x1024.size a := by rw [off3_eq h]; exact row_inb 2 h
  ⟨e, e⟩
theorem chk4 {l : BitVec 32} (h : l.toNat < 8192) : k0_chk4 l := by
  unfold k0_chk4; rw [off4_eq h]; exact row_inb 3 h

/-- The precondition, at each word. -/
theorem pre_words {F : FTy → Type} [FloatOps F] {x : FVec F Cert.Pre_leng_in_range.S4x8192x1024 .f32}
    {leng : IVec Cert.Pre_leng_in_range.S4 32} (h : Cert.Pre_leng_in_range.fn (F := F) x leng = fun _ => 1#1)
    (i : S4.Idx) : (leng i).toNat < 8192 := by
  have e := congrFun h (fun a => a.elim0)
  dsimp only [Cert.Pre_leng_in_range.fn] at e
  have hi := Host.reduce_andi_all _ _ _ _ _ e i
  obtain ⟨h0, h1⟩ := IntOp.andi_eq_one.mp hi
  have h0 : (0#32 : BitVec 32).toInt ≤ (leng i).toInt := IntOp.cmpi_sge.mp h0
  have h1 : (leng i).toInt < (8192#32 : BitVec 32).toInt := IntOp.cmpi_slt.mp h1
  rw [show (0#32 : BitVec 32).toInt = 0 from rfl] at h0
  rw [show (8192#32 : BitVec 32).toInt = 8192 from rfl] at h1
  rw [BitVec.toInt_eq_toNat_cond] at h0 h1
  split at h0 <;> omega

end Cert.Proof.Words

end
-- ==== Proof.Launch.lean ====
/-
  The kernel as the SparseCore launch theorem sees it: its semaphores' facts, the ghost state (the launch handshakes' rounds
  beside the transfers' counters), the four arrays, and what the one call carries — the flattened `x`, the lengths and the
  result to the sequencer, and back with the result `pool` of them. Stated at any interpretation of the floats.
-/
module

public import proofs.«01_k».proof.Proof.Words
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal.Skeleton

@[expose] public section

noncomputable section

namespace Cert.Proof.Launch

open Cert.KernelIdeal Cert.KernelIdeal.Gen Cert.Proof.Words

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are apart and unscoped; no buffer is a SparseCore's shared one. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state -/

abbrev UH : Type := URounds (GSem nD τ sig) ℕ
abbrev UU : Type := UH × Counters

local notation "𝕄" => MT nD τ sig (HIx 1) (Elt F) ℕ UU ℕ

/-- The handshakes' rounds, the left factor. -/
abbrev EH : Emb UH (MT nD τ sig (HIx 1) (Elt F) ℕ UU ℕ) := embL

/-! ## The arrays -/

abbrev xLoc (d : Dev nD) : Loc nD τ sig := (SparseCore.T d).loc main_arg0
abbrev lengLoc (d : Dev nD) : Loc nD τ sig := (SparseCore.T d).loc main_arg1
abbrev flatLoc (d : Dev nD) : Loc nD τ sig := (SparseCore.T d).loc main_v0
abbrev outLoc (d : Dev nD) : Loc nD τ sig := (SparseCore.T d).loc main_v1

/-- The row of the flattened array that batch `b` of length `l` is pooled to (`pick l < 8192` for a length in range). -/
def rowOf (b : Fin 4) (l : BitVec 32) : Fin 32768 := ⟨b.val * 8192 + pick l % 8192, by omega⟩

/-- The element `(r, j)` of a matrix of rows of 1024. -/
def at2 {n : ℕ} (r : Fin n) (j : Fin 1024) : (⟨2, ![n, 1024]⟩ : Shape).Idx := fun | 0 => r | 1 => j

/-- The index of a row's element. -/
def at1 (j : Fin 1024) : S1024.Idx := fun | 0 => j

/-- The index of batch entry `b`'s length. -/
def at4 (b : Fin 4) : S4.Idx := fun | 0 => b

/-- The result: row `b` is the row of batch `b` that its length picks. -/
def pool (x : S32768x1024.Idx → Elt F .f32) (leng : S4.Idx → BitVec 32) : S4x1024.Idx → Elt F .f32 :=
  fun i => x (at2 (rowOf (i 0) (leng (at4 (i 0)))) (i 1))

end Cert.Proof.Launch

end
-- ==== Proof.Rows.lean ====
/-
  The rows the kernel copies: which elements of the flattened array and of the result a row's window holds, and what
  reading or writing through it does.
-/
module

public import proofs.«01_k».proof.Proof.Launch

@[expose] public section

noncomputable section

namespace Cert.Proof.Rows

open Cert.KernelIdeal Cert.KernelIdeal.Gen Cert.Proof.Words Cert.Proof.Launch

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The row of the flattened array that starts at `off`. -/
abbrev srcRow (off : Fin 2 → ℕ) (h : ∀ a, off a + S1x1024.size a ≤ S32768x1024.size a) : Memref sig .scScalar .hbm S1024 .f32 :=
  ((Memref.whole main_v0_scs).slice (Rect.unit (s := S32768x1024) off S1x1024.size h) (fun _ => rfl)).squeeze S1024 squeezes_S1x1024_S1024

theorem srcRow_set (off : Fin 2 → ℕ) (h : ∀ a, off a + S1x1024.size a ≤ S32768x1024.size a) :
    (srcRow off h).view.set = (Rect.unit (s := S32768x1024) off S1x1024.size h).set :=
  (View.set_reshape _ _).trans (View.set_slice_whole _ _)

/-- Rows of different numbers are disjoint. -/
theorem srcRow_disjoint {o o' : Fin 2 → ℕ} (h : ∀ a, o a + S1x1024.size a ≤ S32768x1024.size a)
    (h' : ∀ a, o' a + S1x1024.size a ≤ S32768x1024.size a) (hne : o 0 < o' 0) :
    Disjoint (srcRow o h).view.set (srcRow o' h').view.set := by
  rw [srcRow_set, srcRow_set]
  exact Rect.unit_disjoint 0 (.inl hne)

/-- The row of the result that the copy for entry `b` lands in. -/
abbrev outRow (b : ℕ) (h : ∀ a, (![b, 0] : Fin 2 → ℕ) a + S1x1024.size a ≤ S4x1024.size a) : Memref sig .scScalar .hbm S1024 .f32 :=
  ((Memref.whole main_v1_scs).slice (Rect.unit (s := S4x1024) ![b, 0] S1x1024.size h) (fun _ => rfl)).squeeze S1024 squeezes_S1x1024_S1024

/-- A row cut out of a matrix, its unit axis dropped: the element at `j` is the matrix's at the row's start, moved `j` along. -/
theorem row_emb {n : ℕ} (off : Fin 2 → ℕ) (h : ∀ a, off a + S1x1024.size a ≤ (⟨2, ![n, 1024]⟩ : Shape).size a)
    (hq : S1024.numel = S1x1024.numel) (j : S1024.Idx) :
    ((Rect.unit (s := ⟨2, ![n, 1024]⟩) off S1x1024.size h).emb (Shape.reshapeEquiv hq j) 0 : ℕ) = off 0
      ∧ ((Rect.unit (s := ⟨2, ![n, 1024]⟩) off S1x1024.size h).emb (Shape.reshapeEquiv hq j) 1 : ℕ) = off 1 + (j 0 : ℕ) := by
  rw [show Shape.reshapeEquiv hq j = Fin.cons ⟨0, Nat.one_pos⟩ j from Shape.reshapeEquiv_cons_one hq j]
  exact ⟨by show off 0 + 1 * 0 = off 0; omega, by show off 1 + 1 * (j 0 : ℕ) = _; omega⟩

/-- What a copied row holds: the flattened array at the row's start, moved along. -/
theorem srcRow_read (off : Fin 2 → ℕ) (h : ∀ a, off a + S1x1024.size a ≤ S32768x1024.size a) (x : S32768x1024.Idx → Elt F .f32)
    (r : Fin 32768) (hr : off = ![r.val, 0]) (j : Fin 1024) :
    (srcRow off h).view.read (Elt F) x (at1 j) = x (at2 r j) := by
  have e := row_emb (n := 32768) off h squeezes_S1x1024_S1024.numel_eq (at1 j)
  refine congrArg x (funext fun a => ?_)
  match a with
  | 0 => exact Fin.ext (e.1.trans (congrFun hr 0))
  | 1 =>
    have h1 : off 1 = 0 := congrFun hr 1
    exact Fin.ext (e.2.trans (show off 1 + j.val = j.val by omega))

theorem outRow_set (b : ℕ) (h : ∀ a, (![b, 0] : Fin 2 → ℕ) a + S1x1024.size a ≤ S4x1024.size a) :
    (outRow b h).view.set = (Rect.unit (s := S4x1024) ![b, 0] S1x1024.size h).set :=
  (View.set_reshape _ _).trans (View.set_slice_whole _ _)

/-- A row landed in the result: its own row at the copied elements, the others as they were. -/
theorem outRow_write (b : ℕ) (h : ∀ a, (![b, 0] : Fin 2 → ℕ) a + S1x1024.size a ≤ S4x1024.size a) (f : S4x1024.Idx → Elt F .f32)
    (w : S1024.Idx → Elt F .f32) (i : S4x1024.Idx) :
    (outRow b h).view.write (Elt F) f w Finset.univ i = if (i 0 : ℕ) = b then w (at1 (i 1)) else f i := by
  split
  · next hb =>
    have e := row_emb (n := 4) ![b, 0] h squeezes_S1x1024_S1024.numel_eq (at1 (i 1))
    have hi : (outRow b h).view.emb (at1 (i 1)) = i := funext fun a => by
      match a with
      | 0 => exact Fin.ext (e.1.trans hb.symm)
      | 1 => exact Fin.ext (e.2.trans (Nat.zero_add _))
    exact (congrArg _ hi.symm).trans (View.write_emb_of_mem (v := (outRow b h).view) f w (Finset.mem_univ _))
  · next hb =>
    refine View.write_of_not_mem (v := (outRow b h).view) f w _ fun hi => hb ?_
    have hi' : i ∈ (Rect.unit (s := S4x1024) ![b, 0] S1x1024.size h).set :=
      outRow_set b h ▸ hi
    have := Rect.mem_set_unit.mp hi' 0
    have h1 : b ≤ (i 0 : ℕ) := this.1
    have h2 : (i 0 : ℕ) < b + 1 := this.2
    omega

/-- The rows the four offsets name lie one in each batch. -/
theorem off1_row {l : BitVec 32} (h : l.toNat < 8192) : 0 ≤ k0_off1 l 0 ∧ k0_off1 l 0 < 8192 := by
  have e : k0_off1 l 0 = 0 * 8192 + pick l := congrFun (off1_eq h) 0
  have := pick_lt h
  omega
theorem off2_row {l : BitVec 32} (h : l.toNat < 8192) : 8192 ≤ k0_off2 l 0 ∧ k0_off2 l 0 < 16384 := by
  have e : k0_off2 l 0 = 1 * 8192 + pick l := congrFun (off2_eq h) 0
  have := pick_lt h
  omega
theorem off3_row {l : BitVec 32} (h : l.toNat < 8192) : 16384 ≤ k0_off3 l 0 ∧ k0_off3 l 0 < 24576 := by
  have e : k0_off3 l 0 = 2 * 8192 + pick l := congrFun (off3_eq h) 0
  have := pick_lt h
  omega
theorem off4_row {l : BitVec 32} (h : l.toNat < 8192) : 24576 ≤ k0_off4 l 0 := by
  have e : k0_off4 l 0 = 3 * 8192 + pick l := congrFun (off4_eq h) 0
  omega

/-- The row a window at the kernel's offset for entry `b` reads is entry `b`'s row of the pooled array. -/
theorem srcRow_pool (b : Fin 4) (leng : S4.Idx → BitVec 32) (hl : ∀ i, (leng i).toNat < 8192) (off : Fin 2 → ℕ)
    (ho : off = ![b.val * 8192 + pick (leng (at4 b)), 0]) (h : ∀ a, off a + S1x1024.size a ≤ S32768x1024.size a)
    (x : S32768x1024.Idx → Elt F .f32) (j : Fin 1024) :
    (srcRow off h).view.read (Elt F) x (at1 j) = pool x leng (at2 b j) := by
  refine (srcRow_read off h x (rowOf b (leng (at4 b))) (ho.trans ?_) j).trans rfl
  show _ = ![b.val * 8192 + pick (leng (at4 b)) % 8192, 0]
  rw [Nat.mod_eq_of_lt (pick_lt (hl _))]

/-- The four rows landed, each at its entry's row of the pooled array, make the pooled array. -/
theorem pool_of_rows (x : S32768x1024.Idx → Elt F .f32) (leng : S4.Idx → BitVec 32) (o : S4x1024.Idx → Elt F .f32)
    (w0 w1 w2 w3 : S1024.Idx → Elt F .f32)
    (e0 : ∀ j, w0 (at1 j) = pool x leng (at2 0 j)) (e1 : ∀ j, w1 (at1 j) = pool x leng (at2 1 j))
    (e2 : ∀ j, w2 (at1 j) = pool x leng (at2 2 j)) (e3 : ∀ j, w3 (at1 j) = pool x leng (at2 3 j)) :
    (outRow 3 inb_S4x1024_S1x1024_3_0).view.write (Elt F)
      ((outRow 2 inb_S4x1024_S1x1024_2_0).view.write (Elt F)
        ((outRow 1 inb_S4x1024_S1x1024_1_0).view.write (Elt F)
          ((outRow 0 inb_S4x1024_S1x1024_0_0).view.write (Elt F) o w0 Finset.univ) w1 Finset.univ) w2 Finset.univ) w3 Finset.univ
      = pool x leng := by
  have hi : ∀ i : S4x1024.Idx, i = at2 (i 0) (i 1) := fun i => funext fun a => by match a with | 0 => rfl | 1 => rfl
  have key : ∀ (i : S4x1024.Idx) (b : Fin 4) (w : S1024.Idx → Elt F .f32), (∀ j, w (at1 j) = pool x leng (at2 b j)) →
      (i 0 : ℕ) = b → w (at1 (i 1)) = pool x leng i := fun i b w e hb =>
    (e (i 1)).trans (congrArg (pool x leng) ((congrArg (at2 · (i 1)) (Fin.ext hb : i 0 = b)).symm.trans (hi i).symm))
  funext i
  refine (outRow_write 3 _ _ w3 i).trans ?_
  split
  · exact key i 3 w3 e3 ‹_›
  refine (outRow_write 2 _ _ w2 i).trans ?_
  split
  · exact key i 2 w2 e2 ‹_›
  refine (outRow_write 1 _ _ w1 i).trans ?_
  split
  · exact key i 1 w1 e1 ‹_›
  refine (outRow_write 0 _ _ w0 i).trans ?_
  split
  · exact key i 0 w0 e0 ‹_›
  · have h : (i 0 : ℕ) < 4 := (i 0).isLt
    omega

end Cert.Proof.Rows

end
-- ==== Proof.Body.lean ====
/-
  The kernel's body, run on the sequencer (`body`). The lengths are copied to the sequencer's own memory; each of the four
  words then read picks a row, whose copy to the result is started before any is waited for. All four copies pay one
  semaphore, so the waits are proved together, over the batch of the four: while they are in flight each owns its row of
  the flattened array and its row of the result, and any two of them own different ones (`srcRow_disjoint`).
-/
module

public import proofs.«01_k».proof.Proof.Rows

@[expose] public section

noncomputable section

namespace Cert.Proof.Body

open Cert.KernelIdeal Cert.KernelIdeal.Gen Cert.Proof.Words Cert.Proof.Launch Cert.Proof.Rows

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The sequencer's grid coordinate. -/
abbrev coordsS (c : Fin (grid0.bound 0)) : grid0.Coords := fun | 0 => c | ⟨_ + 1, h⟩ => absurd h (Nat.not_lt.2 (Nat.le_add_left _ _))

/-- The sequencer. -/
abbrev S0 (d : Dev nD) (c : Fin (grid0.bound 0)) : Thread nD τ := S d (c.castLE hcore0)

/-- A word loaded from the copy of `leng` is one of `leng`'s. -/
theorem loaded_lt (s l : S4.Idx → BitVec 32) (hl : ∀ i, (l i).toNat < 8192) (r : LoadRect S4) (i : r.shape.Idx) :
    ((Memref.whole cc0_scratch0).view.readAt (Elt F) r ((Memref.whole cc0_scratch0).view.write (Elt F) s l Finset.univ) i : BitVec 32).toNat < 8192 := by
  have e := View.write_whole_univ (Val := Elt F) cc0_scratch0 s l
  exact (congrArg (fun g => BitVec.toNat ((Memref.whole cc0_scratch0).view.readAt (Elt F) r g i)) e).trans_lt (hl _)

/-- Which of `leng`'s words a load reads. -/
theorem loaded_eq (s l : S4.Idx → BitVec 32) (r : LoadRect S4) (i : r.shape.Idx) :
    (Memref.whole cc0_scratch0).view.readAt (Elt F) r ((Memref.whole cc0_scratch0).view.write (Elt F) s l Finset.univ) i = l (r.idx i) :=
  congrArg (fun g => (Memref.whole cc0_scratch0).view.readAt (Elt F) r g i) (View.write_whole_univ (Val := Elt F) cc0_scratch0 s l)

-- the body's checks of a loaded word
theorem loaded1 {l : Elt F .i32} (h : BitVec.toNat (w := 32) l < 8192) : k0_chk1 l := chk1 h
theorem loaded2 {l : Elt F .i32} (h : BitVec.toNat (w := 32) l < 8192) : k0_chk2 l := chk2 h
theorem loaded3 {l : Elt F .i32} (h : BitVec.toNat (w := 32) l < 8192) : k0_chk3 l := chk3 h
theorem loaded4 {l : Elt F .i32} (h : BitVec.toNat (w := 32) l < 8192) : k0_chk4 l := chk4 h

/-- The body, from the whole arrays, the buffer of words and the two semaphores at zero, ends with the result `pool x leng`,
    the other arrays as they were and the semaphores at zero again; every wait it records is one of its own. -/
theorem body (d : Dev nD) (c : Fin (grid0.bound 0)) (O : CellTallies nD τ sig (HIx 1)) (W : Waits sig (HIx 1))
    (x : Buf (Elt F) (flatLoc d)) (leng : Buf (Elt F) (lengLoc d)) (o : Buf (Elt F) (outLoc d)) (s : Buf (Elt F) ((Memref.whole cc0_scratch0).view.loc (S0 d c)))
    (hl : ∀ i, (leng i).toNat < 8192)
    (plan : Transfers.BatchOf (S0 d c) (SemLoc.dma (sig := sig) cc0_scratch1.sem) 4 (windows := true)) :
    iprop((Transfers.MayWaits (S0 d c) (none : HIx 1) O : sProp 𝕄)
        ∗ ((Memref.whole main_v0_scs).view.loc (S0 d c) ↦{fullShare} x) ∗ ((Memref.whole main_arg1_scs).view.loc (S0 d c) ↦{fullShare} leng)
        ∗ ((Memref.whole main_v1_scs).view.loc (S0 d c) ↦{fullShare} o) ∗ ((Memref.whole cc0_scratch0).view.loc (S0 d c) ↦{fullShare} s)
        ∗ semVal (S0 d c, SemLoc.dma cc0_scratch1.sem) 0 ∗ semVal (S0 d c, SemLoc.dma cc0_scoped0.sem) 0
        ∗ owes (S0 d c) O W)
      ⊢ wp frame (wpE (defs₀ (F := F)) 𝒱₀ (S0 d c) none) Set.univ
          (cc0__last_pool_body (coordsS c) (Memref.whole main_v0_scs) (Memref.isWhole_whole _) (Memref.whole main_arg1_scs) (Memref.isWhole_whole _) (Memref.whole main_v1_scs) (Memref.isWhole_whole _)
            (Memref.whole cc0_scratch0) (Memref.isWhole_whole _) cc0_scratch1 cc0_scoped0)
          fun _ => iprop(((Memref.whole main_v0_scs).view.loc (S0 d c) ↦{fullShare} x) ∗ ((Memref.whole main_arg1_scs).view.loc (S0 d c) ↦{fullShare} leng)
            ∗ ((Memref.whole main_v1_scs).view.loc (S0 d c) ↦{fullShare} pool x leng) ∗ (∃ s, (Memref.whole cc0_scratch0).view.loc (S0 d c) ↦{fullShare} s)
            ∗ semVal (S0 d c, SemLoc.dma cc0_scratch1.sem) 0 ∗ semVal (S0 d c, SemLoc.dma cc0_scoped0.sem) 0
            ∗ ∃ W', ⌜∀ p ∈ W', p ∈ W ∨ p.2 = none⌝ ∗ owes (S0 d c) O W') := by
  rw [cc0__last_pool_body_eq_skeleton]; unfold cc0__last_pool_body_skel
  rw [k0_part1_eq_skeleton]; unfold k0_part1_skel
  iintro ⟨Hmw, Hx, Hl, Ho, Hs, Hd1, Hd0, HO⟩
  have hw := loaded_lt (F := F) s leng hl
  sl_exec (disch := ((first | with_reducible refine loaded1 (F := F) ?_ | with_reducible refine loaded2 (F := F) ?_ | with_reducible refine loaded3 (F := F) ?_ | with_reducible refine loaded4 (F := F) ?_); exact hw _ _))
  have h0 : BitVec.toNat (w := 32) (body.sl.r d c leng s) < 8192 := hw _ _
  have h1 : BitVec.toNat (w := 32) (body.sl.r_1 d c leng s) < 8192 := hw _ _
  have v0 : body.sl.r d c leng s = leng (at4 0) := (loaded_eq (F := F) s leng _ _).trans (congrArg leng (funext fun a => by match a with | 0 => rfl))
  have i0 := k0_off1_inb _ (chk1 h0)
  have v1 : body.sl.r_1 d c leng s = leng (at4 1) := (loaded_eq (F := F) s leng _ _).trans (congrArg leng (funext fun a => by match a with | 0 => rfl))
  have i1 := k0_off2_inb _ (chk2 h1)
  have r0 := off1_row h0
  have r1 := off2_row h1
  have d01 := (srcRow_disjoint i0 i1 (by omega)).symm
  sl_exec (disch := ((first | with_reducible refine loaded1 (F := F) ?_ | with_reducible refine loaded2 (F := F) ?_ | with_reducible refine loaded3 (F := F) ?_ | with_reducible refine loaded4 (F := F) ?_); exact hw _ _))
  have h2 : BitVec.toNat (w := 32) (body.sl.r_2 d c leng s) < 8192 := hw _ _
  have v2 : body.sl.r_2 d c leng s = leng (at4 2) := (loaded_eq (F := F) s leng _ _).trans (congrArg leng (funext fun a => by match a with | 0 => rfl))
  have i2 := k0_off3_inb _ (chk3 h2)
  have r2 := off3_row h2
  have d02 := (srcRow_disjoint i0 i2 (by omega)).symm
  have d12 := (srcRow_disjoint i1 i2 (by omega)).symm
  sl_exec (disch := ((first | with_reducible refine loaded1 (F := F) ?_ | with_reducible refine loaded2 (F := F) ?_ | with_reducible refine loaded3 (F := F) ?_ | with_reducible refine loaded4 (F := F) ?_); exact hw _ _))
  have h3 : BitVec.toNat (w := 32) (body.sl.r_3 d c leng s) < 8192 := hw _ _
  have v3 : body.sl.r_3 d c leng s = leng (at4 3) := (loaded_eq (F := F) s leng _ _).trans (congrArg leng (funext fun a => by match a with | 0 => rfl))
  have i3 := k0_off4_inb _ (chk4 h3)
  have r3 := off4_row h3
  have d03 := (srcRow_disjoint i0 i3 (by omega)).symm
  have d13 := (srcRow_disjoint i1 i3 (by omega)).symm
  have d23 := (srcRow_disjoint i2 i3 (by omega)).symm
  sl_exec (disch := ((first | with_reducible refine loaded1 (F := F) ?_ | with_reducible refine loaded2 (F := F) ?_ | with_reducible refine loaded3 (F := F) ?_ | with_reducible refine loaded4 (F := F) ?_); exact hw _ _))
  rw [show (_ : S4x1024.Idx → Elt F .f32) = _ from pool_of_rows x leng o (body.sl.dma2 d c x leng s hw) (body.sl.dma0_1 d c x leng s hw)
    (body.sl.dma0_2 d c x leng s hw) (body.sl.dma0_3 d c x leng s hw)
    (srcRow_pool 0 leng hl _ ((off1_eq h0).trans (by rw [v0]; rfl)) i0 x) (srcRow_pool 1 leng hl _ ((off2_eq h1).trans (by rw [v1]; rfl)) i1 x)
    (srcRow_pool 2 leng hl _ ((off3_eq h2).trans (by rw [v2]; rfl)) i2 x) (srcRow_pool 3 leng hl _ ((off4_eq h3).trans (by rw [v3]; rfl)) i3 x)]
  sl_step
  iframe
  isplitl [Hs]; · iexists _; iexact Hs
  isplitl [Hd1]; · iexact Hd1
  isplitl [Hd0]; · iexact Hd0
  iexists (insert (SemLoc.dma cc0_scratch1.sem, (default : HIx 1)) (insert (SemLoc.dma cc0_scratch1.sem, default)
    (insert (SemLoc.dma cc0_scratch1.sem, default) (insert (SemLoc.dma cc0_scratch1.sem, default)
      (insert (SemLoc.dma cc0_scoped0.sem, default) W))))); isplitr
  · ipureintro
    intro p hp
    iterate 5
      rcases Finset.mem_insert.mp hp with hp | hp
      · exact .inr (hp ▸ rfl)
    exact .inl hp
  · iexact HO

end Cert.Proof.Body

end
-- ==== Proof.Run.lean ====
/-
  The kernel's run. @main flattens `x` and makes the one SparseCore call; the call takes the flattened array, the lengths and
  the result's buffer to the sequencer and brings them back with the result `pool` of the first two (`body`). The run, at any
  interpretation of the floats and for lengths below 8192, ends with the result so, the arguments as they were and every
  semaphore at zero (`run_main`).
-/
module

public import proofs.«01_k».proof.Proof.Body

@[expose] public section

noncomputable section

namespace Cert.Proof.Run

open Cert.KernelIdeal Cert.KernelIdeal.Gen Cert.Proof.Words Cert.Proof.Launch Cert.Proof.Body

open Idealize.ShloMosaic
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the call carries -/

/-- The flattened `x`. -/
abbrev flat (d : Dev nD) : Buf (Elt F) (flatLoc d) :=
  (shapeCast S32768x1024 (m (xLoc d) : S4x8192x1024.Idx → Elt F .f32) shapeCasts_S4x8192x1024_S32768x1024 : S32768x1024.Idx → Elt F .f32)

/-- The result. -/
abbrev res (d : Dev nD) : Buf (Elt F) (outLoc d) := pool (flat m d) (m (lengLoc d))

abbrev flatPts (d : Dev nD) : sProp 𝕄 := flatLoc d ↦{fullShare} flat m d
abbrev lengPts (d : Dev nD) : sProp 𝕄 := lengLoc d ↦{fullShare} m (lengLoc d)
abbrev outPts (d : Dev nD) (f : Buf (Elt F) (outLoc d)) : sProp 𝕄 := outLoc d ↦{fullShare} f

def P : (K (F := F)).Pay (nD := nD) (Val := Elt F) (Name := ℕ) (U := UU) where
  st := fun _ d _ => iprop(flatPts m d ∗ lengPts m d ∗ ∃ f, outPts d f)
  dn := fun _ d _ => iprop(flatPts m d ∗ lengPts m d ∗ outPts d (res m d))
  go := fun _ _ _ _ => iprop(emp)
  td := fun _ _ _ _ => iprop(emp)
  x := fun _ _ => iprop(emp)

instance P_storable : (P (F := F) m).IsStorable where
  st _ _ _ := by unfold P; infer_instance
  dn _ _ _ := by unfold P; infer_instance
  go _ _ _ _ := by unfold P; infer_instance
  td _ _ _ _ := by unfold P; infer_instance

/-! ## The sequencer's own storage: the buffer of words and the two cells -/

section Own

variable (d : Dev nD) (c : Fin τ.nSC)

abbrev rowCell : GSem nD τ sig := (S d c, .dma cc0_scratch1.sem)
abbrev wordCell : GSem nD τ sig := (S d c, .dma cc0_scoped0.sem)
abbrev wordRef : DevRef τ sig := Proc.devRef (.scScalar c) cc0_scratch0

omit [FloatOps F] in
/-- Of the sequencer's cells, the two the kernel uses. -/
theorem cells_split :
    (ownSems0 (S d c) : sProp 𝕄) = iprop(semVal (rowCell d c) 0 ∗ semVal (wordCell d c) 0
      ∗ bigSep (((ownCells (S d c)).erase (rowCell d c)).erase (wordCell d c)) fun g => semVal g 0) := by
  unfold SparseCore.Cfg.ownSems0
  have hne : wordCell d c ≠ rowCell d c := fun e => absurd (Prod.mk.inj e).2 (by decide)
  rw [SparseCore.bigSep_erase' (i := rowCell d c) (mem_ownCells.mpr ⟨rfl, by
      show (SemLoc.dma cc0_scratch1.sem : SemLoc sig).isScoped .scScalar = true; decide⟩),
    SparseCore.bigSep_erase' (i := wordCell d c) (Finset.mem_erase.mpr ⟨hne, mem_ownCells.mpr ⟨rfl, by
      show (SemLoc.dma cc0_scoped0.sem : SemLoc sig).isScoped .scScalar = true; decide⟩⟩)]

omit [FloatOps F] in
/-- Of the sequencer's buffers, the one the lengths are copied to. -/
theorem bufs_split :
    (ownBufs (S d c) : sProp 𝕄) = iprop((∃ f, ((d, wordRef c) : Loc nD τ sig) ↦{fullShare} f)
      ∗ bigSep ((ownRefs (.scScalar c)).erase (wordRef c)) fun b => iprop(∃ f, ((d, b) : Loc nD τ sig) ↦{fullShare} f)) := by
  unfold SparseCore.Cfg.ownBufs
  exact SparseCore.bigSep_erase' (mem_ownRefs_of_owner rfl)

end Own

/-! ## The launch theorem's obligation -/

/-- The kernel on the sequencer, from what the launch hands it to what the launch takes back. -/
theorem seq_body (hl : ∀ d i, (m (lengLoc d) i).toNat < 8192) (d : Dev nD) (c : Fin (grid0.bound 0))
    (O : CellTallies nD τ sig (HIx 1)) (W : Waits sig (HIx 1)) (hO : ∀ g, O g none = 0) :
    iprop(levAts (K (F := F)).L (K (F := F)).lev ∗ emp ∗ (flatPts m d ∗ lengPts m d ∗ ∃ f, outPts d f)
        ∗ scopedBufs (S0 d c) ∗ scopedSems0 (S0 d c) ∗ owes (S0 d c) O W)
      ⊢ wp frame (wpE (defs₀ (F := F)) 𝒱₀ (S0 d c) none) Set.univ
          (cc0__last_pool_body (coordsS c) (Memref.whole main_v0_scs) (Memref.isWhole_whole _) (Memref.whole main_arg1_scs) (Memref.isWhole_whole _) (Memref.whole main_v1_scs) (Memref.isWhole_whole _)
            (Memref.whole cc0_scratch0) (Memref.isWhole_whole _) cc0_scratch1 cc0_scoped0)
          fun _ => iprop((flatPts m d ∗ lengPts m d ∗ outPts d (res m d)) ∗ scopedBufs (S0 d c) ∗ scopedSems0 (S0 d c)
            ∗ ∃ W', ⌜∀ p ∈ W', p ∈ W ∨ p.2 = none⌝ ∗ owes (S0 d c) O W') := by
  iintro ⟨#Hlv, -, ⟨Hx, Hl, %o, Ho⟩, Hsb, Hss, HO⟩
  ihave Hsb' := (SparseCore.Cfg.scopedBufs_S_elim (K := K (F := F)) facts d (c.castLE hcore0)) $$ Hsb
  icases Hsb' with ⟨Hbufs, Htb⟩
  ihave Hbufs' := (Entails.of_eq (bufs_split (F := F) d (c.castLE hcore0))) $$ Hbufs
  icases Hbufs' with ⟨⟨%s, Hs⟩, Hbufs⟩
  ihave Hss' := (SparseCore.Cfg.scopedSems0_S_elim (Val := Elt F) d (c.castLE hcore0)) $$ Hss
  icases Hss' with ⟨Hown, Hts⟩
  ihave Hown' := (Entails.of_eq (cells_split (F := F) d (c.castLE hcore0))) $$ Hown
  icases Hown' with ⟨Hd1, Hd0, Hcells⟩
  ihave Hmw := ((K (F := F)).mayWaits_none (thr := S0 d c) hO) $$ Hlv
  iapply (wp_wand_r frame _ Set.univ)
  isplitl [Hmw Hx Hl Ho Hs Hd1 Hd0 HO]
  · iapply (body d c O W (flat m d) (m (lengLoc d)) o s (hl d) trivial)
    isplitl [Hmw]; · iexact Hmw
    isplitl [Hx]; · iexact Hx
    isplitl [Hl]; · iexact Hl
    isplitl [Ho]; · iexact Ho
    isplitl [Hs]; · iexact Hs
    isplitl [Hd1]; · iexact Hd1
    isplitl [Hd0]; · iexact Hd0
    iexact HO
  iintro %_ ⟨Hx, Hl, Ho, ⟨%s', Hs⟩, Hd1, Hd0, HO⟩
  isplitl [Hx Hl Ho]
  · isplitl [Hx]; · iexact Hx
    isplitl [Hl]; · iexact Hl
    iexact Ho
  isplitl [Hs Hbufs Htb]
  · iapply (SparseCore.Cfg.scopedBufs_S_intro (K := K (F := F)) facts d (c.castLE hcore0))
    isplitl [Hs Hbufs]
    · rw [bufs_split]
      isplitl [Hs]; · iexists s'; iexact Hs
      iexact Hbufs
    · iexact Htb
  isplitl [Hd1 Hd0 Hcells Hts]
  · iapply (SparseCore.Cfg.scopedSems0_S_intro (Val := Elt F) d (c.castLE hcore0))
    isplitl [Hd1 Hd0 Hcells]
    · rw [cells_split]
      isplitl [Hd1]; · iexact Hd1
      isplitl [Hd0]; · iexact Hd0
      iexact Hcells
    · iexact Hts
  iexact HO

theorem defs₀_scalar (c : Fin τ.nSC) :
    defs₀ (F := F) (.scScalar c) 0 ()
      = SparseCore.onCore hcore0 (fun c => cc0__last_pool_body (coordsS c) (Memref.whole main_v0_scs) (Memref.isWhole_whole _) (Memref.whole main_arg1_scs) (Memref.isWhole_whole _)
          (Memref.whole main_v1_scs) (Memref.isWhole_whole _) (Memref.whole cc0_scratch0) (Memref.isWhole_whole _) cc0_scratch1 cc0_scoped0) ⟨⟩ c := rfl

omit [FloatOps F] in
/-- The waits recorded, as the launch theorem asks for them. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'; isplitr
  · ipureintro; exact fun p hp => (hW' p hp).imp_right Or.inl
  · iexact HO

theorem scalarObl (hl : ∀ d i, (m (lengLoc d) i).toNat < 8192) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact (seq_body m hl d ⟨_, hc⟩ O W hO).trans (wp_mono frame _ _ fun _ => waits_weaken)

/-! ## The ghost state at the launch: the handshakes' rounds, nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P m).x q thr) = (iprop(emp) : sProp 𝕄) :=
    (bigSep_congr fun _ _ => bigSep_emp_const _).trans (bigSep_emp_const _)
  have hd : (bigSep Finset.univ fun _ : Dev nD => iprop(emp)) = (iprop(emp) : sProp 𝕄) := bigSep_emp_const _
  rw [hx, hd]
  unfold u₀
  iintro Hu
  ihave H := (ownU_pair _ _) $$ Hu
  icases H with ⟨HH, -⟩
  imodintro
  isplitl [HH]; · iexact HH
  isplitr <;> iempintro

/-! ## @main on the TensorCore -/

abbrev xRef : DevRef τ sig := Proc.devRef .tc (main_arg0 : Ref sig .tc)
abbrev lengRef : DevRef τ sig := Proc.devRef .tc (main_arg1 : Ref sig .tc)
abbrev flatRef : DevRef τ sig := Proc.devRef .tc (main_v0 : Ref sig .tc)
abbrev outRef : DevRef τ sig := Proc.devRef .tc (main_v1 : Ref sig .tc)
abbrev opFlat : HloOp τ sig (Elt F) :=
  StableHlo.reshape main_arg0 main_v0 (rfl : (.f32 : EltTy) = .f32) shapeCasts_S4x8192x1024_S32768x1024

/-- The TensorCore's arrays. -/
abbrev arrs : Finset (DevRef τ sig) := {xRef, lengRef, flatRef, outRef}

omit [FloatOps F] in
theorem held_arrs (d : Dev nD) (W : Valuation τ sig (Elt F)) :
    (held (SparseCore.T d) arrs W : sProp 𝕄) = iprop((xLoc d ↦{fullShare} W xRef) ∗ (lengLoc d ↦{fullShare} W lengRef)
      ∗ (flatLoc d ↦{fullShare} W flatRef) ∗ outLoc d ↦{fullShare} W outRef) := by
  unfold held arrs
  rw [SparseCore.bigSep_insert' (by decide), SparseCore.bigSep_insert' (by decide), SparseCore.bigSep_insert' (by decide), bigSep_singleton]

omit [FloatOps F] in
theorem unscoped_arrs (d : Dev nD) (W : (b : Ref sig .tc) → Buf (Elt F) ((d.tc : Thread nD τ).loc b)) :
    (unscopedBufs d W : sProp 𝕄) = iprop((xLoc d ↦{fullShare} W main_arg0) ∗ (lengLoc d ↦{fullShare} W main_arg1)
      ∗ (flatLoc d ↦{fullShare} W main_v0) ∗ outLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (SparseCore.T d) arrs (V0 m d) := by
  rw [unscoped_arrs, held_arrs]; rfl

/-- The arrays once `x` is flattened. -/
theorem held_flat (d : Dev nD) :
    (held (SparseCore.T d) arrs ((opFlat (F := F)).result (V0 m d)) : sProp 𝕄)
      = iprop((xLoc d ↦{fullShare} m (xLoc d)) ∗ lengPts m d ∗ flatPts m d ∗ outPts d (m (outLoc d))) := by
  rw [held_arrs, (opFlat (F := F)).result_of_not_mem _ (show xRef ∉ ({flatRef} : Finset (DevRef τ sig)) by decide),
    (opFlat (F := F)).result_of_not_mem _ (show lengRef ∉ ({flatRef} : Finset (DevRef τ sig)) by decide),
    (opFlat (F := F)).result_of_not_mem _ (show outRef ∉ ({flatRef} : Finset (DevRef τ sig)) by decide),
    show (opFlat (F := F)).result (V0 m d) flatRef = flat m d from StableHlo.reshape_result _ _ _ _ _ _ _]
  rfl

theorem flat_sub : (opFlat (F := F)).bufs ⊆ arrs := show ({xRef, flatRef} : Finset (DevRef τ sig)) ⊆ arrs by decide

theorem st_eq (d : Dev nD) : (bigSep Finset.univ fun c : Fin ((K (F := F)).nCore 0) => (P m).st 0 d c)
    = iprop(flatPts m d ∗ lengPts m d ∗ ∃ f, outPts d f) := bigSep_univ_of_subsingleton (0 : Fin 1)
theorem dn_eq (d : Dev nD) : (bigSep Finset.univ fun c : Fin ((K (F := F)).nCore 0) => (P m).dn 0 d c)
    = iprop(flatPts m d ∗ lengPts m d ∗ outPts d (res m d)) := bigSep_univ_of_subsingleton (0 : Fin 1)

/-- What @main leaves: the arguments and the result. -/
abbrev fin (d : Dev nD) : sProp 𝕄 := iprop((xLoc d ↦{fullShare} m (xLoc d)) ∗ lengPts m d ∗ outPts d (res m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ fin m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opFlat) (S := arrs) flat_sub (V := V0 m d)) $$ [Hb Hheld]
  · isplitl [Hb] <;> iassumption
  iintro ⟨Hb, Hheld⟩
  rw [wp_ret]; imodintro
  ihave Hh := (Entails.of_eq (held_flat (F := F) m d)) $$ Hheld
  icases Hh with ⟨Hx, Hl, Hf, Ho⟩
  iapply ((K (F := F)).wp_run (D (F := F)) 𝒱 (EH := EH) (P := P m) κ d 0) $$ [Hst Hx Hl Hf Ho Hb Hts]
  isplitr; · iexact Hctx
  isplitl [Hst]; · iexact Hst
  isplitl [Hl Hf Ho]
  · rw [st_eq]
    isplitl [Hf]; · iexact Hf
    isplitl [Hl]; · iexact Hl
    iexists _; iexact Ho
  iintro ⟨Hst, Hdn⟩
  ihave Hdn' := (Entails.of_eq (dn_eq m d)) $$ Hdn
  icases Hdn' with ⟨-, Hl, Ho⟩
  imodintro
  isplitl [Hst]; · iexact Hst
  isplitl [Hx Hl Ho]
  · isplitl [Hx]; · iexact Hx
    isplitl [Hl]; · iexact Hl
    iexact Ho
  isplitl [Hb] <;> iassumption

/-! ## The run -/

/-- What the claims read of a final memory on device `d`. -/
def Post (d : Dev nD) (mem : (ℓ : Loc nD τ sig) → Buf (Elt F) ℓ) : Prop :=
  mem (outLoc d) = res m d ∧ mem (xLoc d) = m (xLoc d) ∧ mem (lengLoc d) = m (lengLoc d)

theorem hfin (d : Dev nD) (s' : Phys nD τ sig (Elt F)) : iprop(fin m d ∗ SI s') ⊢ (⌜Post m d s'.mem.mem⌝ : sProp 𝕄) := by
  iintro ⟨⟨Hx, Hl, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s') (ℓ := lengLoc d) (I := Finset.univ) (q := fullShare) (f := m (lengLoc d)))) $$ [HSI Hl]
  · isplitl [HSI] <;> iassumption
  icases H with ⟨%hl, HSI, -⟩
  ihave H := (SI_pointsTo_agree (st := s') (ℓ := outLoc d) (I := Finset.univ) (q := fullShare) (f := res m d)) $$ [HSI Ho]
  · isplitl [HSI] <;> iassumption
  icases H with %ho
  ipureintro
  exact ⟨funext fun i => ho i (Finset.mem_univ i), funext fun i => hx i (Finset.mem_univ i), funext fun i => hl i (Finset.mem_univ i)⟩

/-- Every terminating run from lengths below 8192: the result, the arguments unchanged, every semaphore at zero. -/
theorem run_main [∀ e, Nonempty (Elt F e)] (hl : ∀ d i, (m (lengLoc d) i).toNat < 8192) :
    θ_run (Cert.KernelIdeal.defs (F := F)) (Cert.KernelIdeal.threads (F := F)) ⟨m, fun _ => 0, ρ⟩
      fun r => (∀ d, Post m d r.2.mem) ∧ r.2.sem = fun _ => 0 :=
  SparseCore.Cfg.θ_run_sc_quiescent (K := K (F := F)) (D := D (F := F)) (𝒱 := 𝒱) (EH := EH) (P := P m) (A := ∅) facts v₀
    (fun q _ => match q with | 0 => scalarObl m hl)
    (fun q hq => match q with | 0 => nomatch hq)
    (fun q hq => match q with | 0 => nomatch hq)
    m ρ main (fun _ => iprop(emp)) (fin m) (u₀ (F := F)) (sep_elim_left.trans (hu₀ m)) (hmain m ρ)
    (fun d s' => Post m d s'.mem.mem) (hfin m) _ (fun _ h hz => ⟨h, hz⟩)

end Cert.Proof.Run

end
-- ==== Proof.Ref.lean ====
/-
  The reference's value. Its run (at any interpretation of the floats) leaves a gather of `x` at the pairs
  `(b, wrapped (leng b - 1))`, a negative row wrapping to the end of the array. For lengths below 8192 that is the kernel's `pool` of
  the flattened `x` (`gathered_eq_pool`).
-/
module

public import proofs.«01_k».proof.Proof.Launch
public import proofs.«01_k».proof.Proof.Gen.ReferenceIdeal.Run
public import Idealize.ShloMosaic.Lib.Pipeline.Value

@[expose] public section

noncomputable section

namespace Cert.Proof.Ref

open Idealize.ShloMosaic Idealize.ShloMosaic.TcCoe Idealize.SL.Sem
open Cert.ReferenceIdeal Cert.ReferenceIdeal.Gen Cert.Proof.Words Cert.Proof.Launch

variable {F : FTy → Type} [FloatOps F]

/-! ## The two index columns, as words -/

/-- A column of indices as the reference wraps it: `n` is added to a negative index. -/
abbrev wrap (n : BitVec 32) (i : IVec S4 32) : IVec S4 32 :=
  select (cmpi .slt i (broadcastInDim S4 ![] bcast_S_S4 (constantI S_ 32 0#32)))
    (addi i (broadcastInDim S4 ![] bcast_S_S4 (constantI S_ 32 n))) i

/-- The rows before wrapping: the lengths less one. -/
abbrev lessOne (leng : IVec S4 32) : IVec S4 32 := subi leng (broadcastInDim S4 ![] bcast_S_S4 (constantI S_ 32 1#32))

/-- The array of index pairs. -/
abbrev pairs (a b : IVec S4 32) : IVec S4x2 32 :=
  concatenate S4x2 1 [⟨S4x1, broadcastInDim S4x1 ![0] bcast_S4_S4x1_0 a⟩, ⟨S4x1, broadcastInDim S4x1 ![0] bcast_S4_S4x1_0 b⟩]
    concatenates_S4x1_S4x1_S4x2_d1

/-- What the reference computes. -/
abbrev gathered (x : S4x8192x1024.Idx → Elt F .f32) (leng : IVec S4 32) : S4x1024.Idx → Elt F .f32 :=
  Host.gather gather_S4x8192x1024_S4x2_S4x1024_1_01_n_n_01_1_111024 x (pairs (wrap 4#32 (iotaInDim S4 32 0)) (wrap 8192#32 (lessOne leng)))

/-- One word of a wrapped column. -/
theorem wrap_apply (n : BitVec 32) (i : IVec S4 32) (k : S4.Idx) :
    wrap n i k = if (i k).slt 0#32 then i k + n else i k := by
  show (if BitVec.ofBool ((i k).slt 0#32) = 1#1 then i k + n else i k) = _
  cases (i k).slt 0#32 <;> rfl

/-- The batch's own number, wrapped. -/
theorem wrap_batch (k : S4.Idx) : (wrap 4#32 (iotaInDim S4 32 0) k).toInt.toNat = (k 0).val := by
  rw [wrap_apply]
  show (if (BitVec.ofNat 32 (k 0).val).slt 0#32 then BitVec.ofNat 32 (k 0).val + 4#32 else BitVec.ofNat 32 (k 0).val).toInt.toNat = (k 0).val
  have h : ∀ b : Fin 4, (if (BitVec.ofNat 32 b.val).slt 0#32 then BitVec.ofNat 32 b.val + 4#32 else BitVec.ofNat 32 b.val).toInt.toNat = b.val := by
    decide
  exact h (k 0)

/-- The row a length in range picks, wrapped: a length of zero wraps to the last row. -/
theorem wrap_row (leng : IVec S4 32) (k : S4.Idx) (h : (leng k).toNat < 8192) :
    (wrap 8192#32 (lessOne leng) k).toInt.toNat = pick (leng k) := by
  rw [wrap_apply]
  show (if (leng k - 1#32).slt 0#32 then leng k - 1#32 + 8192#32 else leng k - 1#32).toInt.toNat = pick (leng k)
  generalize leng k = l at h ⊢
  unfold pick
  by_cases h0 : l.toNat = 0
  · obtain rfl : l = 0#32 := BitVec.eq_of_toNat_eq h0
    decide
  · have hs : (l - 1#32).toNat = l.toNat - 1 := by rw [BitVec.toNat_sub]; simp; omega
    have hi : (l - 1#32).toInt = ((l.toNat - 1 : ℕ) : ℤ) := by rw [BitVec.toInt_eq_toNat_of_lt (by omega), hs]
    rw [if_neg h0, if_neg (by rw [BitVec.slt_eq_decide, hi]; simp), hi, Int.toNat_natCast]

/-! ## The pairs and the gather, at an index -/

/-- The index of a pair's component. -/
def atPair (b : Fin 4) (c : Fin 2) : S4x2.Idx := fun | 0 => b | 1 => c

/-- The index of batch entry `b`'s row `r`, element `j`. -/
def at3 (b : Fin 4) (r : Fin 8192) (j : Fin 1024) : S4x8192x1024.Idx := fun | 0 => b | 1 => r | 2 => j

/-- The index of a column's entry. -/
def atCol (b : Fin 4) : S4x1.Idx := fun | 0 => b | 1 => ⟨0, Nat.one_pos⟩

theorem col_apply (a : IVec S4 32) (b : Fin 4) : broadcastInDim S4x1 ![0] bcast_S4_S4x1_0 a (atCol b) = a (at4 b) :=
  broadcastInDim_apply _ _ _ _ _ fun | 0 => rfl

theorem pairs_fst (a b : IVec S4 32) (k : Fin 4) : pairs a b (atPair k 0) = a (at4 k) :=
  (concatenate_pair_apply_left (t := S4x2) (s₁ := S4x1) (s₂ := S4x1) 1 _ _ _ (atPair k 0) rfl (atCol k) (fun | 0 => rfl | 1 => rfl)).trans (col_apply a k)

theorem pairs_snd (a b : IVec S4 32) (k : Fin 4) : pairs a b (atPair k 1) = b (at4 k) :=
  (concatenate_pair_apply_right (t := S4x2) (s₁ := S4x1) (s₂ := S4x1) 1 _ _ _ (atPair k 1) rfl rfl (atCol k) (fun | 0 => fun _ => rfl | 1 => fun h => absurd rfl h) rfl).trans (col_apply b k)

/-- The gather at `(b, j)`: element `j` of row `r` of batch `b'`, when that is what pair `b` names (read signed, and in range). -/
theorem gather_pair (x : S4x8192x1024.Idx → Elt F .f32) (idx : IVec S4x2 32) (b b' : Fin 4) (r : Fin 8192) (j : Fin 1024)
    (h0 : (idx (atPair b 0)).toInt.toNat = b'.val) (h1 : (idx (atPair b 1)).toInt.toNat = r.val) :
    Host.gather gather_S4x8192x1024_S4x2_S4x1024_1_01_n_n_01_1_111024 x idx (at2 b j) = x (at3 b' r j) := by
  unfold Host.gather
  refine congrArg x (funext fun a => Fin.ext ?_)
  have hs : ∀ c : Fin 2, gather_S4x8192x1024_S4x2_S4x1024_1_01_n_n_01_1_111024.siIdx (at2 b j) c = atPair b c := fun c =>
    funext fun k => Fin.ext (match k with | 0 => rfl | 1 => rfl)
  match a with
  | 0 => exact (congrArg (fun k => min (idx k).toInt.toNat 3) (hs 0)).trans ((congrArg (min · 3) h0).trans (min_eq_left (by omega)))
  | 1 => exact (congrArg (fun k => min (idx k).toInt.toNat 8191) (hs 1)).trans ((congrArg (min · 8191) h1).trans (min_eq_left (by omega)))
  | 2 => exact (Nat.zero_add _).trans rfl

/-! ## The reference's value is the kernel's -/

/-- The flattened `x`: row `r` of batch `b` is row `b * 8192 + r`. -/
theorem flat_apply (x : S4x8192x1024.Idx → Elt F .f32) (hc : S4x8192x1024.ShapeCasts Cert.KernelIdeal.S32768x1024)
    (b : Fin 4) (r : Fin 8192) (j : Fin 1024) :
    shapeCast Cert.KernelIdeal.S32768x1024 x hc (at2 ⟨b.val * 8192 + r.val, by omega⟩ j) = x (at3 b r j) :=
  shapeCast_apply x hc _ _ (by rw [Shape.rowMajor_val_two, Shape.rowMajor_val_three]; rfl)

theorem gathered_eq_pool (x : S4x8192x1024.Idx → Elt F .f32) (leng : IVec S4 32) (hl : ∀ k, (leng k).toNat < 8192)
    (hc : S4x8192x1024.ShapeCasts Cert.KernelIdeal.S32768x1024) :
    gathered x leng = Launch.pool (shapeCast Cert.KernelIdeal.S32768x1024 x hc) leng := by
  have at_elt : ∀ (b : Fin 4) (j : Fin 1024),
      gathered x leng (at2 b j) = shapeCast Cert.KernelIdeal.S32768x1024 x hc (at2 (rowOf b (leng (at4 b))) j) := by
    intro b j
    have hp := pick_lt (hl (at4 b))
    have er : rowOf b (leng (at4 b)) = ⟨b.val * 8192 + (⟨pick (leng (at4 b)), hp⟩ : Fin 8192).val, by
        show b.val * 8192 + pick (leng (at4 b)) < 32768; omega⟩ :=
      Fin.ext (congrArg (b.val * 8192 + ·) (Nat.mod_eq_of_lt hp))
    rw [er, flat_apply]
    refine gather_pair x _ b b ⟨_, hp⟩ j ?_ ?_
    · rw [pairs_fst]; exact wrap_batch _
    · rw [pairs_snd]; exact wrap_row _ _ (hl _)
  funext i
  obtain ⟨b, j, rfl⟩ : ∃ (b : Fin 4) (j : Fin 1024), i = at2 b j := ⟨i 0, i 1, funext fun | 0 => rfl | 1 => rfl⟩
  exact at_elt b j

/-! ## The reference's run -/

/-- Every terminating run: the gathered rows, the arguments unchanged, and (no semaphore being declared) every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v16)
            = gathered (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 :=
  (θ_run defs _ _).mono (fun r h => ⟨h, sem_eq_zero_of_no_sems (by decide) r.2⟩) (Cert.ReferenceIdeal.Value.run m ρ)

end Cert.Proof.Ref

end
-- ==== Proof.lean ====
/-
  The certificate's claims, from the kernel's run (Proof/Run.lean `run_main`) and the reference's (Proof/Ref.lean `run_ref`).
  Both runs are proved once, at any interpretation of the floats: the idealized programs are the printed programs' own text, so
  the claims at `Bits` and at `Ideal` are the two instances of one theorem. The value claims equate the two results by
  `gathered_eq_pool`.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Pre_leng_in_range
public import proofs.«01_k».proof.Proof.Run
public import proofs.«01_k».proof.Proof.Ref

@[expose] public section

noncomputable section

namespace Cert.Proof

open Idealize.ShloMosaic Idealize.SL.Sem

/-! ## The runs under the precondition -/

/-- The idealized kernel's run. -/
theorem run_ideal (m : (ℓ : Loc Cert.KernelIdeal.nD Cert.KernelIdeal.τ Cert.KernelIdeal.sig) → Buf (Elt Ideal) ℓ)
    (g : Dev Cert.KernelIdeal.nD → PrngReg) (h : Cert.Pre_KernelIdeal m) :
    θ_run (Cert.KernelIdeal.defs (F := Ideal)) (Cert.KernelIdeal.threads (F := Ideal)) ⟨m, fun _ => 0, g⟩
      fun r => (∀ d, Run.Post m d r.2.mem) ∧ r.2.sem = fun _ => 0 :=
  Run.run_main m g fun d i => Words.pre_words (h d) i

/-- The kernel's run: the same text at `Bits`. -/
theorem run_bits (m : (ℓ : Loc Cert.KernelIdeal.nD Cert.KernelIdeal.τ Cert.KernelIdeal.sig) → Buf (Elt Bits) ℓ)
    (g : Dev Cert.KernelIdeal.nD → PrngReg) (h : Cert.Pre_Kernel m) :
    θ_run (Cert.KernelIdeal.defs (F := Bits)) (Cert.KernelIdeal.threads (F := Bits)) ⟨m, fun _ => 0, g⟩
      fun r => (∀ d, Run.Post m d r.2.mem) ∧ r.2.sem = fun _ => 0 :=
  Run.run_main m g fun d i => Words.pre_words (h d) i

/-! ## The frames -/

theorem frame_kernel : Cert.quiescent_Kernel := fun m g h =>
  (θ_run Cert.KernelIdeal.defs _ _).mono (fun _ e => ⟨fun d => (e.1 d).2, e.2⟩) (run_bits m g h)

theorem frame_kernelIdeal : Cert.quiescent_KernelIdeal := fun m g h =>
  (θ_run Cert.KernelIdeal.defs _ _).mono (fun _ e => ⟨fun d => (e.1 d).2, e.2⟩) (run_ideal m g h)

theorem frame_reference : Cert.quiescent_Reference := fun m g _ =>
  (θ_run Cert.ReferenceIdeal.defs _ _).mono (fun _ e => ⟨fun d => (e.1 d).2, e.2⟩) (Ref.run_ref (F := Bits) m g)

theorem frame_referenceIdeal : Cert.quiescent_ReferenceIdeal := fun m g _ =>
  (θ_run Cert.ReferenceIdeal.defs _ _).mono (fun _ e => ⟨fun d => (e.1 d).2, e.2⟩) (Ref.run_ref (F := Ideal) m g)

/-! ## The values -/

/-- The reference ends with the kernel's result, from memories that agree on the arguments and lengths in range. -/
theorem run_ref_res {F : FTy → Type} [FloatOps F]
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (g' : Dev Cert.ReferenceIdeal.nD → PrngReg) (hl : ∀ d i, (m (Launch.lengLoc d) i).toNat < 8192)
    (hag : ∀ c : Dev Cert.KernelIdeal.nD,
      m' ((c.tc : Thread Cert.ReferenceIdeal.nD Cert.ReferenceIdeal.τ).loc Cert.ReferenceIdeal.main_arg0) = m (Launch.xLoc c)
      ∧ m' ((c.tc : Thread Cert.ReferenceIdeal.nD Cert.ReferenceIdeal.τ).loc Cert.ReferenceIdeal.main_arg1) = m (Launch.lengLoc c)) :
    θ_run (Cert.ReferenceIdeal.defs (F := F)) (onTc (τ := Cert.ReferenceIdeal.τ) (Cert.ReferenceIdeal.main (F := F))) ⟨m', fun _ => 0, g'⟩
      (fun r => ∀ c : Dev Cert.ReferenceIdeal.nD,
        r.2.mem ((c.tc : Thread Cert.ReferenceIdeal.nD Cert.ReferenceIdeal.τ).loc Cert.ReferenceIdeal.main_v16) = Run.res m c
        ∧ r.2.mem ((c.tc : Thread Cert.ReferenceIdeal.nD Cert.ReferenceIdeal.τ).loc Cert.ReferenceIdeal.main_arg0)
          = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m' ((c.tc : Thread Cert.ReferenceIdeal.nD Cert.ReferenceIdeal.τ).loc Cert.ReferenceIdeal.main_arg1)) := by
  refine (θ_run Cert.ReferenceIdeal.defs _ _).mono (fun r e c => ⟨(e.1 c).1.trans ?_, (e.1 c).2⟩) (Ref.run_ref m' g')
  rw [(hag c).1, (hag c).2]
  exact Ref.gathered_eq_pool _ _ (hl c) _

theorem algebraic : Cert.algebraic_KernelIdeal_ReferenceIdeal := fun m g m' g' h hag =>
  ⟨fun c => Run.res m c, (θ_run Cert.KernelIdeal.defs _ _).mono (fun _ e => e.1) (run_ideal m g h),
    run_ref_res (F := Ideal) m m' g' (fun d i => Words.pre_words (h d) i) hag⟩

theorem bitexact : Cert.bitexact_Kernel_Reference := fun m g m' g' h hag =>
  ⟨fun c => Run.res (F := Bits) m c, (θ_run Cert.KernelIdeal.defs _ _).mono (fun _ e => e.1) (run_bits m g h),
    run_ref_res (F := Bits) m m' g' (fun d i => Words.pre_words (h d) i) hag⟩

theorem claim : Cert.Claim :=
  ⟨Cert.Kernel.Gen.facts, Cert.KernelIdeal.Gen.facts, Cert.Reference.Gen.facts, Cert.ReferenceIdeal.Gen.facts,
    Cert.Pre_leng_in_range.Gen.facts,
    frame_kernel, frame_kernelIdeal, frame_reference, fun m g _ => frame_reference m g trivial,
    frame_referenceIdeal, fun m g _ => frame_referenceIdeal m g trivial, trivial, algebraic, bitexact⟩

end Cert.Proof

end
